-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x5120 : Shape := ⟨3, ![6, 1024, 5120]⟩
abbrev S5120x2688 : Shape := ⟨2, ![5120, 2688]⟩
abbrev S_ : Shape := ⟨0, ![]⟩
abbrev S1 : Shape := ⟨1, ![1]⟩
abbrev S6144x5120 : Shape := ⟨2, ![6144, 5120]⟩
abbrev S6144x13440 : Shape := ⟨2, ![6144, 13440]⟩
abbrev S256x5120 : Shape := ⟨2, ![256, 5120]⟩
abbrev S256x2688 : Shape := ⟨2, ![256, 2688]⟩
abbrev S512x2688 : Shape := ⟨2, ![512, 2688]⟩
abbrev S6x1024x13440 : Shape := ⟨3, ![6, 1024, 13440]⟩

abbrev nBuf : Space → Nat
  | .hbm => 7
  | .vmem => 6
  | .smem => 1
  | _ => 0

abbrev bufTy : (tb : Table) → Fin (tcTables nBuf tb) → BufTy
  | .hbm, ⟨0, _⟩ => ⟨S6x1024x5120, .bf16⟩
  | .hbm, ⟨1, _⟩ => ⟨S5120x2688, .i8⟩
  | .hbm, ⟨2, _⟩ => ⟨S_, .f32⟩
  | .hbm, ⟨3, _⟩ => ⟨S1, .f32⟩
  | .hbm, ⟨4, _⟩ => ⟨S6144x5120, .bf16⟩
  | .hbm, ⟨5, _⟩ => ⟨S6144x13440, .bf16⟩
  | .hbm, ⟨6, _⟩ => ⟨S6x1024x13440, .bf16⟩
  | .local _ .vmem, ⟨0, _⟩ => ⟨S256x5120, .bf16⟩
  | .local _ .vmem, ⟨1, _⟩ => ⟨S256x5120, .bf16⟩
  | .local _ .vmem, ⟨2, _⟩ => ⟨S5120x2688, .i8⟩
  | .local _ .vmem, ⟨3, _⟩ => ⟨S256x2688, .bf16⟩
  | .local _ .vmem, ⟨4, _⟩ => ⟨S256x2688, .bf16⟩
  | .local _ .vmem, ⟨5, _⟩ => ⟨S5120x2688, .bf16⟩
  | .local _ .smem, ⟨0, _⟩ => ⟨S1, .f32⟩
  | _, _ => ⟨S6x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![5, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c10_i32 : BitVec 32 := 10#32
  let v22 : BitVec 32 := Scalar.addi c0_i32_11 c10_i32
  let c1_i32_12 : BitVec 32 := 1#32
  ⟨c0_i32_11, v22, c1_i32_12⟩
def k0_off1 (k0_t1 : Fin k0_t1_loop.trips) : Fin 2 → Nat :=
  let c0_i32_15 : BitVec 32 := 0#32
  let c0_i32_11 : BitVec 32 := 0#32
  let c1_i32_12 : BitVec 32 := 1#32
  let arg7 : BitVec 32 := Scf.iv c0_i32_11 c1_i32_12 k0_t1
  let c1_i32_14 : BitVec 32 := 1#32
  let v23 : BitVec 32 := Scalar.muli arg7 c1_i32_14
  let v24 : BitVec 32 := Scalar.addi c0_i32_15 v23
  let c512_i32 : BitVec 32 := 512#32
  let v25 : BitVec 32 := Scalar.muli v24 c512_i32
  let v26 : Index := Scalar.indexCast v25
  let c0_16 : Index := 0#32
  ![v26.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S5120x2688 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S6x1024x5120 : Shape := ⟨3, ![6, 1024, 5120]⟩
abbrev S5120x2688 : Shape := ⟨2, ![5120, 2688]⟩
abbrev S_ : Shape := ⟨0, ![]⟩
abbrev S5 : Shape := ⟨1, ![5]⟩
abbrev S1x5120x2688 : Shape := ⟨3, ![1, 5120, 2688]⟩
abbrev S5x1x1 : Shape := ⟨3, ![5, 1, 1]⟩
abbrev S5x5120x2688 : Shape := ⟨3, ![5, 5120, 2688]⟩
abbrev S6x1024x5x2688 : Shape := ⟨4, ![6, 1024, 5, 2688]⟩
abbrev S6x1024x13440 : Shape := ⟨3, ![6, 1024, 13440]⟩

abbrev nBuf : Space → Nat
  | .hbm => 57
  | .vmem => 0
  | .smem => 0
  | _ => 0

abbrev bufTy : (tb : Table) → Fin (tcTables nBuf tb) → BufTy
  | .hbm, ⟨0, _⟩ => ⟨S6x1024x5120, .bf16⟩
  | .hbm, ⟨1, _⟩ => ⟨S5120x2688, .i8⟩
  | .hbm, ⟨2, _⟩ => ⟨S_, .f32⟩
  | .hbm, ⟨3, _⟩ => ⟨S5, .i32⟩
  | .hbm, ⟨4, _⟩ => ⟨S5120x2688, .i32⟩
  | .hbm, ⟨5, _⟩ => ⟨S1x5120x2688, .i32⟩
  | .hbm, ⟨6, _⟩ => ⟨S5x1x1, .i32⟩
  | .hbm, ⟨7, _⟩ => ⟨S5x5120x2688, .i32⟩
  | .hbm, ⟨8, _⟩ => ⟨S5x5120x2688, .i32⟩
  | .hbm, ⟨9, _⟩ => ⟨S5x5120x2688, .i32⟩
  | .hbm, ⟨10, _⟩ => ⟨S1x5120x2688, .i32⟩
  | .hbm, ⟨11, _⟩ => ⟨S5x1x1, .i32⟩
  | .hbm, ⟨12, _⟩ => ⟨S5x5120x2688, .i32⟩
  | .hbm, ⟨13, _⟩ => ⟨S5x5120x2688, .i32⟩
  | .hbm, ⟨14, _⟩ => ⟨S5x5120x2688, .i1⟩
  | .hbm, ⟨15, _⟩ => ⟨S5x5120x2688, .i32⟩
  | .hbm, ⟨16, _⟩ => ⟨S5x5120x2688, .i32⟩
  | .hbm, ⟨17, _⟩ => ⟨S5x5120x2688, .i32⟩
  | .hbm, ⟨18, _⟩ => ⟨S_, .i32⟩
  | .hbm, ⟨19, _⟩ => ⟨S5x5120x2688, .i32⟩
  | .hbm, ⟨20, _⟩ => ⟨S5x5120x2688, .i1⟩
  | .hbm, ⟨21, _⟩ => ⟨S5x5120x2688, .i1⟩
  | .hbm, ⟨22, _⟩ => ⟨S_, .i32⟩
  | .hbm, ⟨23, _⟩ => ⟨S5x5120x2688, .i32⟩
  | .hbm, ⟨24, _⟩ => ⟨S5x5120x2688, .i32⟩
  | .hbm, ⟨25, _⟩ => ⟨S5x5120x2688, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S5x5120x2688, .i32⟩
  | .hbm, ⟨33, _⟩ => ⟨S5x5120x2688, .i32⟩
  | .hbm, ⟨34, _⟩ => ⟨S_, .i32⟩
  | .hbm, ⟨35, _⟩ => ⟨S5x5120x2688, .i32⟩
  | .hbm, ⟨36, _⟩ => ⟨S5x5120x2688, .i1⟩
  | .hbm, ⟨37, _⟩ => ⟨S_, .i32⟩
  | .hbm, ⟨38, _⟩ => ⟨S5x5120x2688, .i32⟩
  | .hbm, ⟨39, _⟩ => ⟨S5x5120x2688, .i1⟩
  | .hbm, ⟨40, _⟩ => ⟨S_, .i32⟩
  | .hbm, ⟨41, _⟩ => ⟨S_, .i1⟩
  | .hbm, ⟨42, _⟩ => ⟨S5x5120x2688, .i1⟩
  | .hbm, ⟨43, _⟩ => ⟨S5x5120x2688, .i1⟩
  | .hbm, ⟨44, _⟩ => ⟨S5x5120x2688, .i1⟩
  | .hbm, ⟨45, _⟩ => ⟨S5x5120x2688, .i32⟩
  | .hbm, ⟨46, _⟩ => ⟨S5x5120x2688, .i32⟩
  | .hbm, ⟨47, _⟩ => ⟨S5x5120x2688, .i32⟩
  | .hbm, ⟨48, _⟩ => ⟨S5x5120x2688, .bf16⟩
  | .hbm, ⟨49, _⟩ => ⟨S_, .bf16⟩
  | .hbm, ⟨50, _⟩ => ⟨S5x5120x2688, .bf16⟩
  | .hbm, ⟨51, _⟩ => ⟨S5x5120x2688, .bf16⟩
  | .hbm, ⟨52, _⟩ => ⟨S6x1024x5x2688, .f32⟩
  | .hbm, ⟨53, _⟩ => ⟨S6x1024x13440, .f32⟩
  | .hbm, ⟨54, _⟩ => ⟨S6x1024x13440, .f32⟩
  | .hbm, ⟨55, _⟩ => ⟨S6x1024x13440, .f32⟩
  | .hbm, ⟨56, _⟩ => ⟨S6x1024x13440, .bf16⟩
  | _, _ => ⟨S6x1024x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_c_0 : Ref sig .tc := ⟨.hbm, 22, rfl⟩
abbrev main_call0_v14 : Ref sig .tc := ⟨.hbm, 23, rfl⟩
abbrev main_call0_v15 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v4 : Ref sig .tc := ⟨.hbm, 47, rfl⟩
abbrev main_v5 : Ref sig .tc := ⟨.hbm, 48, rfl⟩
abbrev main_cst : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩

abbrev nD : Nat := 1
abbrev τ : Topo := Topo.v7x

variable {F : FTy → Type} [FloatOps F]
-- ==== Proof.Decode.lean ====
/- What one grid point's body leaves behind, as closed terms of what the point reads (any float instance). The first
   point of a digit runs a loop of ten trips; each trip decodes 512 rows of the packed bytes into the scratch, so after
   the loop the scratch holds the decoded digit of every byte. The point then multiplies its block of the activations by the scratch and
   scales; a later point of the digit does only this, with the scratch the point before left. -/
module

public import proofs.«01_k».proof.Proof.Gen.KernelIdeal.Frame
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The two zero offsets of a whole access. -/
theorem hz2 : (![0, 0] : Fin 2 → Nat) = fun _ => 0 := funext fun a => by fin_cases a <;> rfl

/-- An array of one element has one index. -/
theorem idx1_eq (a b : S1.Idx) : a = b := funext fun k => by
  fin_cases k
  exact Fin.ext (by have h1 : (a 0).val < 1 := (a 0).isLt; have h2 : (b 0).val < 1 := (b 0).isLt; show (a 0).val = (b 0).val; omega)

/-- The weight one byte decodes to at grid coordinates `i`: the kernel's arithmetic on that byte alone. -/
def weight (i : grid0.Coords) (b : Elt F .i8) : Elt F .bf16 := k0_pay1 i (fun _ => b) (fun a => ⟨0, by fin_cases a <;> decide⟩)

/-- The payload a trip stores is the decoded weight of the byte at the same index. -/
theorem pay1_apply (i : grid0.Coords) (v : Vec F S512x2688 .i8) (x : S512x2688.Idx) : k0_pay1 i v x = weight i (v x) := by
  unfold weight k0_pay1
  simp only [shapeCast_self]
  rfl

/-- The whole packed array decoded at grid coordinates `i`. -/
def decoded (i : grid0.Coords) (p : Vec F S5120x2688 .i8) : Vec F S5120x2688 .bf16 := fun y => weight i (p y)

/-- One trip writes one piece, its 512 rows, the payload the decoding of the rows it loads. -/
theorem trip_eq (𝒱 : Variants) (c : Dev nD) (bd : Option 𝒱.V) (i : grid0.Coords) (arg2 : Memref sig .tc .smem S1 .f32) (harg2 : arg2.IsWhole) (arg3 : Memref sig .tc .vmem S256x5120 .bf16) (harg3 : arg3.IsWhole) (arg4 : Memref sig .tc .vmem S5120x2688 .i8) (harg4 : arg4.IsWhole) (arg5 : Memref sig .tc .vmem S256x2688 .bf16) (harg5 : arg5.IsWhole) (arg6 : Memref sig .tc .vmem S5120x2688 .bf16) (harg6 : arg6.IsWhole) (k0_h1 : k0_cond1 i = 1#1) (X : BufTy.Contents (Elt F) arg4.view.ty) (k : Fin k0_t1_loop.trips) :
    (trip_k0_t1 (F := F) 𝒱 c bd i arg2 harg2 arg3 harg3 arg4 harg4 arg5 harg5 arg6 harg6 k0_h1 X k).1
      = [⟨Rect.unit (s := S5120x2688) (k0_off1 k) S512x2688.size (k0_off1_inb i k k0_h1),
          k0_pay1 i (arg4.view.readAt (Elt F) (Rect.unit (s := S5120x2688) (k0_off1 k) S512x2688.size (k0_off1_inb i k k0_h1)).toLoadRect X)⟩] := by
  unfold trip_k0_t1
  dsimp only

/-- Every piece the trips before `n` wrote is a block of the decoded array. -/
theorem pb_pieces (𝒱 : Variants) (c : Dev nD) (bd : Option 𝒱.V) (i : grid0.Coords) (arg2 : Memref sig .tc .smem S1 .f32) (harg2 : arg2.IsWhole) (arg3 : Memref sig .tc .vmem S256x5120 .bf16) (harg3 : arg3.IsWhole) (arg4 : Memref sig .tc .vmem S5120x2688 .i8) (harg4 : arg4.IsWhole) (arg5 : Memref sig .tc .vmem S256x2688 .bf16) (harg5 : arg5.IsWhole) (arg6 : Memref sig .tc .vmem S5120x2688 .bf16) (harg6 : arg6.IsWhole) (k0_h1 : k0_cond1 i = 1#1) (p : Vec F S5120x2688 .i8) :
    ∀ (n : ℕ), ∀ q ∈ pb_k0_t1 (F := F) 𝒱 c bd i arg2 harg2 arg3 harg3 arg4 harg4 arg5 harg5 arg6 harg6 k0_h1 (harg4.unread p) n, ∀ x : q.1.shape.Idx,
      q.2 x = decoded i p (q.1.emb x)
  | 0, q, hq, _ => by rw [pb_k0_t1.eq_1] at hq; exact absurd hq List.not_mem_nil
  | n + 1, q, hq, x => by
    by_cases h : n < k0_t1_loop.trips
    · rw [pb_k0_t1_succ (F := F) 𝒱 c bd i arg2 harg2 arg3 harg3 arg4 harg4 arg5 harg5 arg6 harg6 k0_h1 (harg4.unread p) ⟨n, h⟩] at hq
      rcases List.mem_append.mp hq with hq | hq
      · unfold tripL_k0_t1 at hq
        rw [trip_eq, List.mem_singleton] at hq
        subst hq
        simp only [View.readAt_eq_ld, harg4.read_unread]
        exact pay1_apply i _ x
      · exact pb_pieces 𝒱 c bd i arg2 harg2 arg3 harg3 arg4 harg4 arg5 harg5 arg6 harg6 k0_h1 p n q hq x
    · rw [pb_k0_t1.eq_2] at hq
      unfold pb_k0_t1Step at hq
      rw [dif_neg h] at hq
      exact pb_pieces 𝒱 c bd i arg2 harg2 arg3 harg3 arg4 harg4 arg5 harg5 arg6 harg6 k0_h1 p n q hq x

/-- A digit's first point leaves the scratch holding the decoded array. -/
theorem sout_A (c : Dev nD) (i : grid0.Coords) (arg2 : Memref sig .tc .smem S1 .f32) (harg2 : arg2.IsWhole) (arg3 : Memref sig .tc .vmem S256x5120 .bf16) (harg3 : arg3.IsWhole) (arg4 : Memref sig .tc .vmem S5120x2688 .i8) (harg4 : arg4.IsWhole) (arg5 : Memref sig .tc .vmem S256x2688 .bf16) (harg5 : arg5.IsWhole) (arg6 : Memref sig .tc .vmem S5120x2688 .bf16) (harg6 : arg6.IsWhole) (hc0 : cond0_0 i)
    (x0 : Vec F S1 .f32) (x1 : Vec F S256x5120 .bf16) (x2 : Vec F S5120x2688 .i8) :
    sout0_A_0 c i arg2 harg2 arg3 harg3 arg4 harg4 arg5 harg5 arg6 harg6 hc0 x0 x1 x2 = decoded i x2 := by
  unfold sout0_A_0
  have hc := scover0_A_0 c i arg2 harg2 arg3 harg3 arg4 harg4 arg5 harg5 arg6 harg6 hc0 x0 x1 x2
  rw [View.read_writes_eq_canon _ _ _ hc]
  funext y
  refine View.canon_apply_of_pieces (decoded i x2) _ ?_ y (hc y)
  unfold kernelRun0_A
  dsimp only
  try sl_unfold_words
  exact pb_pieces _ c _ i arg2 harg2 arg3 harg3 arg4 harg4 arg5 harg5 arg6 harg6 _ x2 _

/-- A digit's first point leaves in the output block its block of the activations times the decoded array, scaled. -/
theorem out_A (c : Dev nD) (i : grid0.Coords) (arg2 : Memref sig .tc .smem S1 .f32) (harg2 : arg2.IsWhole) (arg3 : Memref sig .tc .vmem S256x5120 .bf16) (harg3 : arg3.IsWhole) (arg4 : Memref sig .tc .vmem S5120x2688 .i8) (harg4 : arg4.IsWhole) (arg5 : Memref sig .tc .vmem S256x2688 .bf16) (harg5 : arg5.IsWhole) (arg6 : Memref sig .tc .vmem S5120x2688 .bf16) (harg6 : arg6.IsWhole) (hc0 : cond0_0 i)
    (x0 : Vec F S1 .f32) (x1 : Vec F S256x5120 .bf16) (x2 : Vec F S5120x2688 .i8) (z : S1.Idx) :
    out0_A_3 c i arg2 harg2 arg3 harg3 arg4 harg4 arg5 harg5 arg6 harg6 hc0 x0 x1 x2 = k0_pay2 x1 (decoded i x2) (x0 z) := by
  have hs := sout_A c i arg2 harg2 arg3 harg3 arg4 harg4 arg5 harg5 arg6 harg6 hc0 x0 x1 x2
  have hc := scover0_A_0 c i arg2 harg2 arg3 harg3 arg4 harg4 arg5 harg5 arg6 harg6 hc0 x0 x1 x2
  unfold sout0_A_0 at hs
  rw [View.read_writes_eq_canon _ _ _ hc] at hs
  unfold out0_A_3
  rw [View.read_writes_eq_canon _ _ _ (cover0_A_3 c i arg2 harg2 arg3 harg3 arg4 harg4 arg5 harg5 arg6 harg6 hc0 x0 x1 x2)]
  unfold kernelRun0_A at hs hc
  dsimp only at hs hc
  unfold kernelRun0_A
  dsimp only
  sl_unfold_words
  rw [View.canon_unit_zero hz2, View.readCov_eq_canon_ld _ _ _ hc, View.ld_unit_zero (S := S5120x2688) hz2, hs]
  simp only [View.readAt_eq_ld, harg2.read_unread, harg3.read_unread, View.ld_unit_zero (S := S256x5120) hz2]
  exact congrArg (fun j => k0_pay2 x1 (decoded i x2) (x0 j)) (idx1_eq _ _)

/-- A later point of a digit leaves in the output block its block of the activations times the scratch it found, scaled. -/
theorem out_B (c : Dev nD) (i : grid0.Coords) (arg2 : Memref sig .tc .smem S1 .f32) (harg2 : arg2.IsWhole) (arg3 : Memref sig .tc .vmem S256x5120 .bf16) (harg3 : arg3.IsWhole) (arg4 : Memref sig .tc .vmem S5120x2688 .i8) (harg4 : arg4.IsWhole) (arg5 : Memref sig .tc .vmem S256x2688 .bf16) (harg5 : arg5.IsWhole) (arg6 : Memref sig .tc .vmem S5120x2688 .bf16) (harg6 : arg6.IsWhole) (hc0 : ¬cond0_0 i)
    (x0 : Vec F S1 .f32) (x1 : Vec F S256x5120 .bf16) (x2 : Vec F S5120x2688 .i8) (xs0 : Vec F S5120x2688 .bf16) (z : S1.Idx) :
    out0_B_3 c i arg2 harg2 arg3 harg3 arg4 harg4 arg5 harg5 arg6 harg6 hc0 x0 x1 x2 xs0 = k0_pay2 x1 xs0 (x0 z) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  try sl_unfold_words
  rw [View.canon_unit_zero hz2]
  simp only [View.readAt_eq_ld, harg2.read_unread, harg3.read_unread, harg6.read_unread, View.ld_unit_zero (S := S256x5120) hz2, View.ld_unit_zero (S := S5120x2688) hz2]
  exact congrArg (fun j => k0_pay2 x1 xs0 (x0 j)) (idx1_eq _ _)

end Cert.KernelIdeal.Body

end
-- ==== Proof.State.lean ====
/- What the scratch and the output block hold after each grid point (any float instance): the scratch holds the packed array
   decoded at the point's digit, and the block is the point's rows of activations against it, scaled. -/
module

public import proofs.«01_k».proof.Proof.Decode

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- The weight depends on the grid coordinates through the digit alone. -/
theorem weight_congr (i i' : grid0.Coords) (h : (i 0).val = (i' 0).val) (b : Elt F .i8) : weight i b = weight i' b := by
  unfold weight k0_pay1
  simp only [h]

/-- A point's digit is its number divided by 24. -/
theorem coords_digit (t : Fin grid0.N) : (grid0.coords t 0).val = t.val / 24 := by
  have ht : t.val < 120 := Nat.lt_of_lt_of_eq t.isLt N_0
  have e0 : (grid0.coords t 0).val = t.val / 24 % 5 := Pipeline.Grid.coords_val t 0 (by decide) rfl
  omega

/-- The block of the packed array is the whole array at every point. -/
theorem iblk2 (c : Dev nD) (t : Fin cfg0.N) : iblk m c 2 t = m ((c : Thread nD τ).loc main_arg1) := by
  have e : ∀ t : Fin cfg0.N, win0_2.index t (0 : Fin 2) = 0 ∧ win0_2.index t (1 : Fin 2) = 0 := (by decide +kernel : ∀ t : Fin grid0.N, _)
  obtain ⟨e0, e1⟩ := e t
  unfold iblk
  rw [show V m c (Pipeline.arrRef spec0 2) = m ((c : Thread nD τ).loc main_arg1) from V_main_arg1 m c]
  funext y
  show m ((c : Thread nD τ).loc main_arg1) (((cfg0.win 2).blk t).view.emb y) = _
  congr 1
  funext a; apply Fin.ext
  match a with
  | ⟨0, _⟩ => show win0_2.index t (0 : Fin 2) * 5120 + 1 * (y 0).val = (y 0).val; rw [e0]; omega
  | ⟨1, _⟩ => show win0_2.index t (1 : Fin 2) * 2688 + 1 * (y 1).val = (y 1).val; rw [e1]; omega

/-- After every point the scratch holds the packed array decoded at the point's digit. -/
theorem carried (c : Dev nD) : ∀ (n : ℕ) (hn : n < cfg0.N),
    (outsAt0 m c n hn).2 = decoded (grid0.coords ⟨n, hn⟩) (m ((c : Thread nD τ).loc main_arg1)) := by
  intro n
  induction n with
  | zero =>
    intro hn
    rw [outsAt0_A m c ⟨0, hn⟩ (Nat.zero_mod _)]
    dsimp only
    rw [sout_A, iblk2]
  | succ n ih =>
    intro hn
    by_cases h0 : (n + 1) % 24 = 0
    · rw [outsAt0_A m c ⟨n + 1, hn⟩ h0]
      dsimp only
      rw [sout_A, iblk2]
    · rw [outsAt0_B m c ⟨n + 1, hn⟩ h0]
      dsimp only
      unfold sout0_B_0
      refine (ih (Nat.lt_of_succ_lt hn)).trans (funext fun y => ?_)
      refine weight_congr _ _ ?_ _
      rw [coords_digit, coords_digit]
      show n / 24 = (n + 1) / 24
      omega

/-- After every point the output block is the point's rows of activations against the decoded array, scaled. -/
theorem block (c : Dev nD) (t : Fin cfg0.N) (z : S1.Idx) :
    (outsAt0 m c t.val t.isLt).1
      = k0_pay2 (iblk m c 1 t) (decoded (grid0.coords t) (m ((c : Thread nD τ).loc main_arg1))) (iblk m c 0 t z) := by
  by_cases h0 : t.val % 24 = 0
  · rw [outsAt0_A m c t h0]
    dsimp only
    rw [out_A _ _ _ _ _ _ _ _ _ _ _ _ _ _ _ _ z, iblk2]
  · rw [outsAt0_B m c t h0]
    dsimp only
    rw [out_B _ _ _ _ _ _ _ _ _ _ _ _ _ _ _ _ _ z, carried]
    congr 1
    funext y
    refine weight_congr _ _ ?_ _
    rw [coords_digit, coords_digit]
    show (t.val - 1) / 24 = t.val / 24
    omega

end Cert.KernelIdeal.Body

end
-- ==== Proof.Digits.lean ====
/- The digit a packed byte holds, and the kernel's float arithmetic on that byte: over the extended reals the floors the
   kernel takes give the byte's base-3 digit exactly, minus one. -/
module

public import proofs.«01_k».proof.Proof.Decode
public import Idealize.ShloMosaic.PureOps.Ideal
public import Idealize.ShloMosaic.Lib.Pointwise

@[expose] public section

set_option maxRecDepth 16384

noncomputable section

namespace Cert.Digits

open Idealize.ShloMosaic

/-- The ternary weight a packed byte holds at digit `d`: its base-3 digit, minus one. -/
def digitW (b : BitVec 8) (d : ℕ) : EReal := (((b.toNat / 3 ^ d % 3 : ℕ) : ℝ) - 1 : ℝ)

/-- One entry of the result: a row of activations against a column of bytes decoded at digit `d`, times the scale. -/
def outAt (x : Fin 5120 → EReal) (p : Fin 5120 → BitVec 8) (s : EReal) (d : ℕ) : EReal := (∑ k, x k * digitW (p k) d) * s

/-- The floor of `(n + 1/2) / d` is the quotient of `n` by `d`. -/
theorem floor_half_div (n d : ℕ) (hd : 0 < d) : ⌊((n : ℝ) + 1 / 2) * (1 / (d : ℝ))⌋ = ((n / d : ℕ) : ℤ) := by
  have h := Nat.div_add_mod n d
  have hm : n % d + 1 ≤ d := Nat.mod_lt n hd
  have hd' : (0 : ℝ) < d := by exact_mod_cast hd
  have h' : (n : ℝ) = d * ((n / d : ℕ) : ℝ) + ((n % d : ℕ) : ℝ) := by exact_mod_cast h.symm
  have hm' : ((n % d : ℕ) : ℝ) + 1 ≤ d := by exact_mod_cast hm
  have h0 : (0 : ℝ) ≤ ((n % d : ℕ) : ℝ) := Nat.cast_nonneg _
  rw [Int.floor_eq_iff, mul_one_div, Int.cast_natCast]
  constructor
  · rw [le_div_iff₀ hd']; nlinarith
  · rw [div_lt_iff₀ hd']; nlinarith

/-- The kernel's single-precision third, slightly more than a third, still gives the quotient by 3 for a byte. -/
theorem floor_half_third (q : ℕ) (hq : q ≤ 255) : ⌊((q : ℝ) + 1 / 2) * (11184811 / 33554432)⌋ = ((q / 3 : ℕ) : ℤ) := by
  have h := Nat.div_add_mod q 3
  have hm : q % 3 ≤ 2 := by have := Nat.mod_lt q (show 0 < 3 by decide); omega
  have ha : q / 3 ≤ 85 := by omega
  have h' : (q : ℝ) = 3 * ((q / 3 : ℕ) : ℝ) + ((q % 3 : ℕ) : ℝ) := by exact_mod_cast h.symm
  have hm' : ((q % 3 : ℕ) : ℝ) ≤ 2 := by exact_mod_cast hm
  have ha' : ((q / 3 : ℕ) : ℝ) ≤ 85 := by exact_mod_cast ha
  have h0 : (0 : ℝ) ≤ ((q % 3 : ℕ) : ℝ) := Nat.cast_nonneg _
  have h1 : (0 : ℝ) ≤ ((q / 3 : ℕ) : ℝ) := Nat.cast_nonneg _
  rw [Int.floor_eq_iff, Int.cast_natCast]
  constructor <;> linarith

/-- The single-precision constants of the kernel, as reals. -/
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_third : Ideal.ofBits .f32 0x3EAAAAAB#32 = ((11184811 / 33554432 : ℝ) : EReal) := by
  simp [Ideal.ofBits, Ideal.ieee, -EReal.coe_mul]; norm_num
theorem ofBits_one_bf16 : Ideal.ofBits .bf16 0x3F80#16 = ((1 : ℝ) : EReal) := by
  simp [Ideal.ofBits, Ideal.ieee, -EReal.coe_mul]; norm_num

end Cert.Digits

namespace Cert.KernelIdeal.Body

open Cert.KernelIdeal Cert.KernelIdeal.Gen Cert.Digits Idealize.ShloMosaic Idealize.ShloMosaic.TcCoe

/-- The words the kernel picks its power of three from. -/
theorem pow_word : ∀ d : Fin 5,
    (Scalar.select (Scalar.cmpi CmpIPredicate.eq (BitVec.ofNat 32 d.val) 0#32) (1#32)
      (Scalar.select (Scalar.cmpi CmpIPredicate.eq (BitVec.ofNat 32 d.val) 1#32) (3#32)
        (Scalar.select (Scalar.cmpi CmpIPredicate.eq (BitVec.ofNat 32 d.val) 2#32) (9#32)
          (Scalar.select (Scalar.cmpi CmpIPredicate.eq (BitVec.ofNat 32 d.val) 3#32) 27#32 81#32)))).toInt
      = ((3 ^ d.val : ℕ) : ℤ) := by
  decide +kernel

/-- Rounding down a real that is not infinite. -/
theorem liftFloor (r : ℝ) : Ideal.liftRound Int.floor (r : EReal) = ((⌊r⌋ : ℝ) : EReal) := rfl

/-- What the kernel decodes a byte to at grid coordinates `i` is the byte's ternary weight at digit `i 0`. -/
theorem weight_eq (i : grid0.Coords) (b : BitVec 8) : weight (F := Ideal) i b = digitW b (i 0).val := by
  have hi : (i 0).val < 5 := (i 0).isLt
  have hb : b.toNat < 256 := b.isLt
  unfold weight k0_pay1
  pointwise
  have hw := pow_word ⟨(i 0).val, hi⟩
  dsimp only at hw
  rw [hw, show (FloatOps.sitofp (F := Ideal) FTy.f32 (BitVec.setWidth 32 b) : EReal) = (((BitVec.setWidth 32 b).toInt : ℝ) : EReal) from rfl]
  generalize (i 0).val = d at *
  have hd : 0 < 3 ^ d := by positivity
  have hn : (BitVec.setWidth 32 b).toInt = ((b.toNat : ℕ) : ℤ) := by
    rw [BitVec.toInt_eq_toNat_of_lt (by rw [BitVec.toNat_setWidth]; omega), BitVec.toNat_setWidth]
    congr 1; omega
  have hq : b.toNat / 3 ^ d ≤ 255 := (Nat.div_le_self _ _).trans (by omega)
  have hdiv : Ideal.div 1 (((((3 ^ d : ℕ) : ℤ) : ℝ) : EReal)) = ((1 / ((3 ^ d : ℕ) : ℝ) : ℝ) : EReal) := by
    have hne : (((((3 ^ d : ℕ) : ℤ) : ℝ) : EReal)) ≠ 0 := by
      rw [Int.cast_natCast]; exact_mod_cast hd.ne'
    unfold Ideal.div
    rw [if_neg hne, one_mul, ← EReal.coe_inv, Int.cast_natCast, one_div]
  rw [hn, hdiv, ofBits_half, ofBits_three, ofBits_third]
  have e1 : Ideal.liftRound Int.floor ((((((b.toNat : ℕ) : ℤ) : ℝ) : EReal) + ((1 / 2 : ℝ) : EReal)) * ((1 / ((3 ^ d : ℕ) : ℝ) : ℝ) : EReal))
      = (((b.toNat / 3 ^ d : ℕ) : ℝ) : EReal) := by
    rw [← EReal.coe_add, ← EReal.coe_mul, liftFloor, Int.cast_natCast, floor_half_div _ _ hd, Int.cast_natCast]
  rw [e1]
  have e2 : Ideal.liftRound Int.floor (((((b.toNat / 3 ^ d : ℕ) : ℝ) : EReal) + ((1 / 2 : ℝ) : EReal)) * ((11184811 / 33554432 : ℝ) : EReal))
      = (((b.toNat / 3 ^ d / 3 : ℕ) : ℝ) : EReal) := by
    rw [← EReal.coe_add, ← EReal.coe_mul, liftFloor, floor_half_third _ hq, Int.cast_natCast]
  rw [e2, ← EReal.coe_mul, ← EReal.coe_sub, ← EReal.coe_one, ← EReal.coe_sub, digitW]
  congr 2
  have h := Nat.div_add_mod (b.toNat / 3 ^ d) 3
  have h' : ((b.toNat / 3 ^ d : ℕ) : ℝ) = 3 * ((b.toNat / 3 ^ d / 3 : ℕ) : ℝ) + ((b.toNat / 3 ^ d % 3 : ℕ) : ℝ) := by
    exact_mod_cast h.symm
  linarith

end Cert.KernelIdeal.Body

end
-- ==== Proof.Final.lean ====
/- What the program's result buffer holds after the run, over the extended reals. -/
module

public import proofs.«01_k».proof.Proof.State
public import proofs.«01_k».proof.Proof.Digits
public import Idealize.ShloMosaic.Lib.StableHlo.Run

@[expose] public section

set_option maxRecDepth 16384

noncomputable section

namespace Cert.KernelIdeal.Final

open Cert.Digits Cert.KernelIdeal Cert.KernelIdeal.Gen Cert.KernelIdeal.Body Idealize.ShloMosaic Idealize.ShloMosaic.TcCoe Idealize.SL.Sem

variable (m : (ℓ : Loc nD τ sig) → Buf (Elt Ideal) ℓ) (ρ : Dev nD → PrngReg)

/-- The block's arithmetic at one index: a row against a decoded column, scaled. -/
theorem pay2_apply (t : Fin grid0.N) (x : Vec Ideal S256x5120 .bf16) (p : Vec Ideal S5120x2688 .i8) (s : Elt Ideal .f32) (r : Fin 256) (j : Fin 2688) :
    k0_pay2 x (decoded (grid0.coords t) p) s (ix2 r j)
      = outAt (fun k => x (ix2 r k)) (fun k => p (ix2 k j)) s (t.val / 24) := by
  have h : ∀ y, decoded (grid0.coords t) p y = digitW (p y) (t.val / 24) := fun y => by
    unfold decoded
    rw [weight_eq, coords_digit]
  unfold k0_pay2
  pointwise
  simp only [h]
  rfl

/-- The activations as the region finds them: the launched array with its first two axes merged. -/
theorem V_main_v1 (c : Dev nD) : V m c main_v1 = shapeCast S6144x5120 (m ((c : Thread nD τ).loc main_arg0) : Vec Ideal S6x1024x5120 .bf16) shapeCasts_S6x1024x5120_S6144x5120 := by
  unfold V V0 hostOps0
  simp only [List.flatten_cons, List.flatten_nil, List.append_nil, StableHlo.after_cons, StableHlo.after_nil]
  rw [StableHlo.reshape_result', StableHlo.reshape_result_ne' (h := by decide)]
  rfl

/-- The scale as the region finds it. -/
theorem V_main_v0 (c : Dev nD) : V m c main_v0 = shapeCast S1 (m ((c : Thread nD τ).loc main_arg2) : Vec Ideal S_ .f32) shapeCasts_S_S1 := by
  unfold V V0 hostOps0
  simp only [List.flatten_cons, List.flatten_nil, List.append_nil, StableHlo.after_cons, StableHlo.after_nil]
  rw [StableHlo.reshape_result_ne' (h := by decide), StableHlo.reshape_result']
  rfl

/-- The region's output array after the run. -/
def G (c : Dev nD) : Vec Ideal S6144x13440 .bf16 := fun i =>
  outAt (fun k => (V m c main_v1 : Vec Ideal S6144x5120 .bf16) (ix2 (i 0) k))
    (fun k => (m ((c : Thread nD τ).loc main_arg1) : Vec Ideal S5120x2688 .i8) (ix2 k ⟨(i 1).val % 2688, Nat.mod_lt _ (by decide)⟩))
    ((V m c main_v0 : Vec Ideal S1 .f32) (ix1 0)) ((i 1).val / 2688)

/-- The printed index maps, decided over the grid. -/
theorem idx_facts : ∀ t : Fin cfg0.N, win0_3.index t (0 : Fin 2) = t.val % 24 ∧ win0_3.index t (1 : Fin 2) = t.val / 24
    ∧ win0_1.index t (0 : Fin 2) = t.val % 24 ∧ win0_1.index t (1 : Fin 2) = 0 ∧ win0_3.flush t = true :=
  (by decide +kernel : ∀ t : Fin grid0.N, _)

/-- The block of activations at point `t`: rows `256 (t mod 24)` and on. -/
theorem iblk1_apply (c : Dev nD) (t : Fin cfg0.N) (r : Fin 256) (k : Fin 5120) (R : Fin 6144) (hR : R.val = t.val % 24 * 256 + r.val) :
    iblk m c 1 t (ix2 r k) = (V m c main_v1 : Vec Ideal S6144x5120 .bf16) (ix2 R k) := by
  obtain ⟨-, -, e0, e1, -⟩ := idx_facts t
  show V m c main_v1 (((cfg0.win 1).blk t).view.emb (ix2 r k)) = _
  congr 1
  funext a; apply Fin.ext
  match a with
  | ⟨0, _⟩ => show win0_1.index t (0 : Fin 2) * 256 + 1 * r.val = R.val; rw [e0]; omega
  | ⟨1, _⟩ => show win0_1.index t (1 : Fin 2) * 5120 + 1 * k.val = k.val; rw [e1]; omega

/-- The block of the scale at every point. -/
theorem iblk0_apply (c : Dev nD) (t : Fin cfg0.N) (z : S1.Idx) : iblk m c 0 t z = (V m c main_v0 : Vec Ideal S1 .f32) (ix1 0) := by
  show V m c main_v0 (((cfg0.win 0).blk t).view.emb z) = _
  congr 1
  exact idx1_eq _ _

/-- What point `t` writes back is block `t` of that array. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3, block m c t (ix1 0)]
  obtain ⟨e0, e1, -, -, -⟩ := idx_facts t
  have ht : t.val < 120 := Nat.lt_of_lt_of_eq t.isLt N_0
  funext y
  have hy0 : (y 0).val < 256 := (y 0).isLt
  have hy1 : (y 1).val < 2688 := (y 1).isLt
  have hb0 : (((cfg0.win 3).blk t).view.emb y 0).val = win0_3.index t (0 : Fin 2) * 256 + 1 * (y 0).val := rfl
  have hb1 : (((cfg0.win 3).blk t).view.emb y 1).val = win0_3.index t (1 : Fin 2) * 2688 + 1 * (y 1).val := rfl
  have hy : (cfg0.win 3).xinj (grid0.coords t) y = (ix2 ⟨(y 0).val, hy0⟩ ⟨(y 1).val, hy1⟩ : S256x2688.Idx) := by
    funext a; apply Fin.ext
    match a with
    | ⟨0, _⟩ => rfl
    | ⟨1, _⟩ => rfl
  show k0_pay2 (F := Ideal) _ _ _ ((cfg0.win 3).xinj (grid0.coords t) y) = G m c (((cfg0.win 3).blk t).view.emb y)
  rw [hy, pay2_apply]
  unfold G
  rw [show (((cfg0.win 3).blk t).view.emb y 1).val / 2688 = t.val / 24 from by rw [hb1, e1]; omega, iblk0_apply]
  congr 1
  · funext k
    exact iblk1_apply m c t _ k _ (by rw [hb0, e0]; show _ = _ + (y 0).val; omega)
  · funext k
    congr 2
    apply Fin.ext
    show (y 1).val = (((cfg0.win 3).blk t).view.emb y 1).val % 2688
    rw [hb1, e1]; omega

/-- An index of the array is in point `t`'s block iff each coordinate is in the block's range on its axis. -/
theorem mem_blk (t : Fin cfg0.N) (i : S6144x13440.Idx) :
    i ∈ ((cfg0.win 3).blk t).view.set ↔ ∀ a : Fin 2, win0_3.index t a * S256x2688.size a ≤ (i a).val ∧ (i a).val < win0_3.index t a * S256x2688.size a + S256x2688.size a := by
  show i ∈ ((View.whole main_v2).slice (win0_3.rect t)).set ↔ _
  rw [View.set_slice_whole, Rect.mem_set_unit]
  exact Iff.rfl

/-- Every index of the array is in the block of some point, which writes it back. -/
theorem covered (i : S6144x13440.Idx) : ∃ t : Fin cfg0.N, (cfg0.win 3).flush t = true ∧ i ∈ ((cfg0.win 3).blk t).view.set := by
  have hi0 : (i 0).val < 6144 := (i 0).isLt
  have hi1 : (i 1).val < 13440 := (i 1).isLt
  have hlt : (i 0).val / 256 + 24 * ((i 1).val / 2688) < 120 := by omega
  obtain ⟨e0, e1, -, -, hf⟩ := idx_facts ⟨(i 0).val / 256 + 24 * ((i 1).val / 2688), lt_of_lt_of_eq hlt N_0.symm⟩
  refine ⟨⟨(i 0).val / 256 + 24 * ((i 1).val / 2688), lt_of_lt_of_eq hlt N_0.symm⟩, hf, ?_⟩
  rw [mem_blk]
  dsimp only at e0 e1
  intro a
  match a with
  | ⟨0, _⟩ => show win0_3.index _ (0 : Fin 2) * 256 ≤ (i 0).val ∧ (i 0).val < win0_3.index _ (0 : Fin 2) * 256 + 256; rw [e0]; omega
  | ⟨1, _⟩ => show win0_3.index _ (1 : Fin 2) * 2688 ≤ (i 1).val ∧ (i 1).val < win0_3.index _ (1 : Fin 2) * 2688 + 2688; rw [e1]; omega

/-- The region's output array after the last point. -/
theorem final (c : Dev nD) : (dats m 0 c).arrAt 3 cfg0.N = G m c :=
  (dats m 0 c).arrAt_eq_of_cover 3 _ (fun t _ => flushed_eq m c t) (fun i => covered i)

/-- The program's result: that array with its rows split in two axes. -/
def result (c : Dev nD) : Vec Ideal S6x1024x13440 .bf16 := shapeCast S6x1024x13440 (G m c) shapeCasts_S6144x13440_S6x1024x13440

/-- Merging the first two axes: the row `1024 a + b` of the merged array is the row `(a, b)`. -/
theorem merge_apply (x : Vec Ideal S6x1024x5120 .bf16) (a : Fin 6) (b : Fin 1024) (h : a.val * 1024 + b.val < 6144) (k : Fin 5120) :
    shapeCast S6144x5120 x shapeCasts_S6x1024x5120_S6144x5120 (ix2 ⟨a.val * 1024 + b.val, h⟩ k) = x (ix3 a b k) := by
  pointwise

/-- The scale as an array of one element. -/
theorem scale_apply (x : Vec Ideal S_ .f32) : shapeCast S1 x shapeCasts_S_S1 (ix1 0) = x ix0 := by
  pointwise

/-- The result at one index: the row of activations against the decoded column of weights, times the scale. -/
theorem result_apply (c : Dev nD) (a : Fin 6) (b : Fin 1024) (n : Fin 13440) :
    result m c (ix3 a b n)
      = outAt (fun k => m ((c.tc).loc main_arg0) (ix3 a b k))
          (fun k => m ((c.tc).loc main_arg1) (ix2 k ⟨n.val % 2688, Nat.mod_lt _ (by decide)⟩))
          (m ((c.tc).loc main_arg2) ix0) (n.val / 2688) := by
  unfold result
  pointwise [G]
  rw [V_main_v0, V_main_v1, scale_apply]
  exact congrArg (fun f => outAt f _ _ _) (funext fun k => merge_apply _ a b _ k)

/-- The line after the region leaves the result buffer at `result`. -/
theorem tail_eq (c : Dev nD) : Pipeline.afterTail₀ cfgs (dats m) 0 (V0 m) [hostOps1] c main_v3 = result m c := by
  unfold Pipeline.afterTail₀ hostOps1
  simp only [List.flatten_cons, List.flatten_nil, List.append_nil, StableHlo.after_cons, StableHlo.after_nil]
  rw [StableHlo.reshape_result']
  have h := (Pipeline.withArrays_arr spec0 launch0.win.arr_inj c (V0 m c) (fun w => (dats m 0 c).arrAt w cfg0.N) 3).trans (final m c)
  unfold result
  rw [← h]
  rfl

/-- After the run the result buffer holds `result` and the arguments are as launched. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.RefValue.lean ====
/- The reference's result at one index. -/
module

public import proofs.«01_k».proof.Proof.Gen.ReferenceIdeal.Run
public import proofs.«01_k».proof.Proof.Digits
public import Idealize.ShloMosaic.Lib.Pointwise

@[expose] public section

set_option maxRecDepth 16384

noncomputable section

namespace Cert.ReferenceIdeal.Read

open Cert.Digits Cert.ReferenceIdeal Cert.ReferenceIdeal.Gen Idealize.ShloMosaic Idealize.ShloMosaic.TcCoe Idealize.SL.Sem

variable (m : (ℓ : Loc nD τ sig) → Buf (Elt Ideal) ℓ)

/-- The sign of a word: 0, −1 or 1. -/
def sgn (x : BitVec 32) : BitVec 32 := if x = 0 then 0 else if x.msb = true then -1 else 1

/-- The reference's word arithmetic on a byte `x` and a power of three `w`: the remainder by 3 of the floor quotient. -/
def refWord (x w : BitVec 32) : BitVec 32 :=
  let q := Scalar.select (IntOp.andi (IntOp.cmpi .ne (sgn x) (sgn w)) (IntOp.cmpi .ne (IntOp.remsi .host x w) 0#32))
    (IntOp.subi (IntOp.divsi .host x w) 1#32) (IntOp.divsi .host x w)
  let t : BitVec 32 := Scalar.select (IntOp.cmpi .eq 3#32 0#32) 1#32 3#32
  let r := IntOp.remsi .host q t
  Scalar.select (IntOp.andi (IntOp.cmpi .ne (IntOp.cmpi .slt r 0#32) (IntOp.cmpi .slt t 0#32)) (IntOp.cmpi .ne r 0#32))
    (IntOp.addi r t) r

/-- For every byte and every entry of the reference's table of powers, that word is the byte's base-3 digit. -/
theorem refWord_fin : ∀ (j : Fin 5) (b : Fin 256),
    (refWord (BitVec.setWidth 32 (BitVec.ofFin b : BitVec 8)) (lit0 (S5.rowMajor (ix1 j)))).toInt
      = ((b.val / 3 ^ j.val % 3 : ℕ) : ℤ) := by
  decide +kernel

/-- The weight the reference decodes a byte to is its ternary weight at the digit the table entry stands for. -/
theorem refWeight (j : Fin 5) (b : BitVec 8) :
    (FloatOps.sitofp (F := Ideal) FTy.bf16 (refWord (BitVec.setWidth 32 b) (lit0 (S5.rowMajor (ix1 j)))) : EReal) - 1
      = digitW b j.val := by
  have h := refWord_fin j b.toFin
  rw [show (FloatOps.sitofp (F := Ideal) FTy.bf16 (refWord (BitVec.setWidth 32 b) (lit0 (S5.rowMajor (ix1 j)))) : EReal)
    = (((refWord (BitVec.setWidth 32 (BitVec.ofFin b.toFin : BitVec 8)) (lit0 (S5.rowMajor (ix1 j)))).toInt : ℝ) : EReal) from rfl,
    h, Int.cast_natCast, ← EReal.coe_one, ← EReal.coe_sub]
  rfl

/-- The reference's result at one index: the row of activations against the decoded column of weights, times the scale. -/
theorem res_apply (c : Dev nD) (a : Fin 6) (b : Fin 1024) (n : Fin 13440) :
    Value.res_out0 m c (ix3 a b n)
      = outAt (fun k => m ((c.tc).loc main_arg0) (ix3 a b k))
          (fun k => m ((c.tc).loc main_arg1) (ix2 k ⟨n.val % 2688, Nat.mod_lt _ (by decide)⟩))
          (m ((c.tc).loc main_arg2) ix0) (n.val / 2688) := by
  unfold Value.res_out0 Value.res_main_v12
  pointwise
  rw [show (id (constantI S_ 32 3#32) ix0 : BitVec 32) = 3#32 from rfl]
  refine congrArg (fun s : EReal => HMul.hMul (α := EReal) (β := EReal) s (m ((c.tc).loc main_arg2) ix0)) ?_
  refine Finset.sum_congr rfl fun k _ => congrArg (fun s : EReal => HMul.hMul (α := EReal) (β := EReal) (m ((c.tc).loc main_arg0) (ix3 a b k)) s) ?_
  exact refWeight ⟨n.val / 2688, by have := n.isLt; omega⟩ _

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as launched, and ends with every semaphore counter at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On equal arguments the reference's result is the kernel's, index by index. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 m' c = Cert.KernelIdeal.Final.result m c := by
  funext y
  have hy : y = ix3 (y 0) (y 1) (y 2) := funext fun a => by fin_cases a <;> rfl
  rw [hy]
  refine (Cert.ReferenceIdeal.Read.res_apply m' c (y 0) (y 1) (y 2)).trans ?_
  refine Eq.trans ?_ (Cert.KernelIdeal.Final.result_apply m c (y 0) (y 1) (y 2)).symm
  rw [h.1, h.2.1, h.2.2]

/-- Over the extended reals the kernel and the reference, run on equal arguments, end with equal results. -/
theorem equal : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Final.result m c, Cert.KernelIdeal.Final.run m ρ, ?_⟩
  exact (θ_run _ _ _).mono (fun _ h c => ⟨(h c).1.trans (result_eq m m' c (hagree c)), (h c).2⟩)
    (Cert.ReferenceIdeal.Value.run m' ρ')

/-- The claim of this certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal⟩

end Cert.Proof

end
